-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1792x10240 : Shape := ⟨2, ![1792, 10240]⟩
abbrev S26x1792 : Shape := ⟨2, ![26, 1792]⟩
abbrev S1792 : Shape := ⟨1, ![1792]⟩
abbrev S3584 : Shape := ⟨1, ![3584]⟩
abbrev S28 : Shape := ⟨1, ![28]⟩
abbrev S26 : Shape := ⟨1, ![26]⟩
abbrev S26x1 : Shape := ⟨2, ![26, 1]⟩
abbrev S1x1792 : Shape := ⟨2, ![1, 1792]⟩
abbrev S_ : Shape := ⟨0, ![]⟩

class Facts : Prop where
  bcast_S26_S26x1_0 : S26.BroadcastsInDim S26x1 (![0] : Fin 1 → Fin S26x1.rank)
  bcast_S1792_S1x1792_1 : S1792.BroadcastsInDim S1x1792 (![1] : Fin 1 → Fin S1x1792.rank)
  bcast_S26x1_S26x1792_0_1 : S26x1.BroadcastsInDim S26x1792 (![0, 1] : Fin 2 → Fin S26x1792.rank)
  bcast_S1x1792_S26x1792_0_1 : S1x1792.BroadcastsInDim S26x1792 (![0, 1] : Fin 2 → Fin S26x1792.rank)
  bcast_S_S26x1792 : S_.BroadcastsInDim S26x1792 (![] : Fin 0 → Fin S26x1792.rank)
  bcast_S_S3584 : S_.BroadcastsInDim S3584 (![] : Fin 0 → Fin S3584.rank)
  bcast_S_S1792x10240 : S_.BroadcastsInDim S1792x10240 (![] : Fin 0 → Fin S1792x10240.rank)
  bcast_S_S1792 : S_.BroadcastsInDim S1792 (![] : Fin 0 → Fin S1792.rank)
  bcast_S_S28 : S_.BroadcastsInDim S28 (![] : Fin 0 → Fin S28.rank)

variable [Facts]

def fn_part2 {F : FTy → Type} [FloatOps F] (main_v5 : IVec S26x1792 1) (main_v16 : IVec S26x1792 1) (main_v27 : IVec S3584 1) (main_v30 : IVec S1792x10240 1) (main_v33 : IVec S1792 1) (main_v36 : IVec S28 1) : IVec S1792x10240 1 × IVec S1792 1 × IVec S28 1 × IVec S26x1792 1 × IVec S3584 1 :=
  let main_v37 : IVec S26x1792 1 := ori main_v5 main_v16
  (main_v30, main_v33, main_v36, main_v37, main_v27)

def fn_part1 {F : FTy → Type} [FloatOps F] (main_arg0 : FVec F S1792x10240 .bf16) (main_arg4 : FVec F S1792 .f32) (main_arg6 : IVec S3584 32) (main_arg7 : IVec S3584 8) (main_arg8 : FVec F S28 .f32) (main_v5 : IVec S26x1792 1) (main_v16 : IVec S26x1792 1) (main_v18 : IVec S3584 1) : IVec S1792x10240 1 × IVec S1792 1 × IVec S28 1 × IVec S26x1792 1 × IVec S3584 1 :=
  let main_c_4 : IVec S_ 8 := constantI S_ 8 255#8
  let main_v19 : IVec S3584 8 := broadcastInDim S3584 ![] bcast_S_S3584 main_c_4
  let main_v20 : IVec S3584 1 := cmpi .ne main_arg7 main_v19
  let main_v21 : IVec S3584 1 := andi main_v18 main_v20
  let main_c_5 : IVec S_ 32 := constantI S_ 32 0#32
  let main_v22 : IVec S3584 32 := broadcastInDim S3584 ![] bcast_S_S3584 main_c_5
  let main_v23 : IVec S3584 1 := cmpi .sge main_arg6 main_v22
  let main_v24 : IVec S3584 1 := andi main_v21 main_v23
  let main_c_6 : IVec S_ 32 := constantI S_ 32 1792#32
  let main_v25 : IVec S3584 32 := broadcastInDim S3584 ![] bcast_S_S3584 main_c_6
  let main_v26 : IVec S3584 1 := cmpi .slt main_arg6 main_v25
  let main_v27 : IVec S3584 1 := andi main_v24 main_v26
  let main_v28 : FVec F S1792x10240 .bf16 := Host.absf main_arg0
  let main_cst : FVec F S_ .bf16 := constant S_ .bf16 0x7F80#16
  let main_v29 : FVec F S1792x10240 .bf16 := broadcastInDim S1792x10240 ![] bcast_S_S1792x10240 main_cst
  let main_v30 : IVec S1792x10240 1 := cmpf .olt main_v28 main_v29
  let main_v31 : FVec F S1792 .f32 := Host.absf main_arg4
  let main_cst_7 : FVec F S_ .f32 := constant S_ .f32 0x7F800000#32
  let main_v32 : FVec F S1792 .f32 := broadcastInDim S1792 ![] bcast_S_S1792 main_cst_7
  let main_v33 : IVec S1792 1 := cmpf .olt main_v31 main_v32
  let main_v34 : FVec F S28 .f32 := Host.absf main_arg8
  let main_cst_8 : FVec F S_ .f32 := constant S_ .f32 0x7F800000#32
  let main_v35 : FVec F S28 .f32 := broadcastInDim S28 ![] bcast_S_S28 main_cst_8
  let main_v36 : IVec S28 1 := cmpf .olt main_v34 main_v35
  fn_part2 (F := F) main_v5 main_v16 main_v27 main_v30 main_v33 main_v36

def fn {F : FTy → Type} [FloatOps F] (main_arg0 : FVec F S1792x10240 .bf16) (main_arg1 : IVec S26x1792 8) (main_arg2 : IVec S26x1792 32) (main_arg3 : IVec S1792 32) (main_arg4 : FVec F S1792 .f32) (main_arg5 : IVec S3584 32) (main_arg6 : IVec S3584 32) (main_arg7 : IVec S3584 8) (main_arg8 : FVec F S28 .f32) : IVec S1792x10240 1 × IVec S1792 1 × IVec S28 1 × IVec S26x1792 1 × IVec S3584 1 :=
  let main_v0 : IVec S26 32 := iotaInDim S26 32 0
  let main_v1 : IVec S26x1 32 := broadcastInDim S26x1 ![0] bcast_S26_S26x1_0 main_v0
  let main_v2 : IVec S1x1792 32 := broadcastInDim S1x1792 ![1] bcast_S1792_S1x1792_1 main_arg3
  let main_v3 : IVec S26x1792 32 := broadcastInDim S26x1792 ![0, 1] bcast_S26x1_S26x1792_0_1 main_v1
  let main_v4 : IVec S26x1792 32 := broadcastInDim S26x1792 ![0, 1] bcast_S1x1792_S26x1792_0_1 main_v2
  let main_v5 : IVec S26x1792 1 := cmpi .sge main_v3 main_v4
  let main_c : IVec S_ 8 := constantI S_ 8 127#8
  let main_v6 : IVec S26x1792 8 := broadcastInDim S26x1792 ![] bcast_S_S26x1792 main_c
  let main_v7 : IVec S26x1792 1 := cmpi .ne main_arg1 main_v6
  let main_c_0 : IVec S_ 8 := constantI S_ 8 255#8
  let main_v8 : IVec S26x1792 8 := broadcastInDim S26x1792 ![] bcast_S_S26x1792 main_c_0
  let main_v9 : IVec S26x1792 1 := cmpi .ne main_arg1 main_v8
  let main_v10 : IVec S26x1792 1 := andi main_v7 main_v9
  let main_c_1 : IVec S_ 32 := constantI S_ 32 0#32
  let main_v11 : IVec S26x1792 32 := broadcastInDim S26x1792 ![] bcast_S_S26x1792 main_c_1
  let main_v12 : IVec S26x1792 1 := cmpi .sge main_arg2 main_v11
  let main_v13 : IVec S26x1792 1 := andi main_v10 main_v12
  let main_c_2 : IVec S_ 32 := constantI S_ 32 1792#32
  let main_v14 : IVec S26x1792 32 := broadcastInDim S26x1792 ![] bcast_S_S26x1792 main_c_2
  let main_v15 : IVec S26x1792 1 := cmpi .slt main_arg2 main_v14
  let main_v16 : IVec S26x1792 1 := andi main_v13 main_v15
  let main_c_3 : IVec S_ 8 := constantI S_ 8 127#8
  let main_v17 : IVec S3584 8 := broadcastInDim S3584 ![] bcast_S_S3584 main_c_3
  let main_v18 : IVec S3584 1 := cmpi .ne main_arg7 main_v17
  fn_part1 (F := F) main_arg0 main_arg4 main_arg6 main_arg7 main_arg8 main_v5 main_v16 main_v18
-- ==== Kernel.lean ====
abbrev S1792x10240 : Shape := ⟨2, ![1792, 10240]⟩
abbrev S26x1792 : Shape := ⟨2, ![26, 1792]⟩
abbrev S1792 : Shape := ⟨1, ![1792]⟩
abbrev S3584 : Shape := ⟨1, ![3584]⟩
abbrev S28 : Shape := ⟨1, ![28]⟩
abbrev S1792x26 : Shape := ⟨2, ![1792, 26]⟩
abbrev S1792x1 : Shape := ⟨2, ![1792, 1]⟩
abbrev S1x3584 : Shape := ⟨2, ![1, 3584]⟩
abbrev S3584x1 : Shape := ⟨2, ![3584, 1]⟩
abbrev S28x128 : Shape := ⟨2, ![28, 128]⟩
abbrev S1792x1792 : Shape := ⟨2, ![1792, 1792]⟩
abbrev S256x26 : Shape := ⟨2, ![256, 26]⟩
abbrev S256x1 : Shape := ⟨2, ![256, 1]⟩
abbrev S256x1792 : Shape := ⟨2, ![256, 1792]⟩
abbrev S256x512 : Shape := ⟨2, ![256, 512]⟩
abbrev S1x512 : Shape := ⟨2, ![1, 512]⟩
abbrev S512x1792 : Shape := ⟨2, ![512, 1792]⟩
abbrev S512x1 : Shape := ⟨2, ![512, 1]⟩
abbrev S1792x1024 : Shape := ⟨2, ![1792, 1024]⟩

abbrev nBuf : Space → Nat
  | .hbm => 24
  | .vmem => 22
  | .smem => 0
  | _ => 0

abbrev bufTy : (tb : Table) → Fin (tcTables nBuf tb) → BufTy
  | .hbm, ⟨0, _⟩ => ⟨S1792x10240, .bf16⟩
  | .hbm, ⟨1, _⟩ => ⟨S26x1792, .i8⟩
  | .hbm, ⟨2, _⟩ => ⟨S26x1792, .i32⟩
  | .hbm, ⟨3, _⟩ => ⟨S1792, .i32⟩
  | .hbm, ⟨4, _⟩ => ⟨S1792, .f32⟩
  | .hbm, ⟨5, _⟩ => ⟨S3584, .i32⟩
  | .hbm, ⟨6, _⟩ => ⟨S3584, .i32⟩
  | .hbm, ⟨7, _⟩ => ⟨S3584, .i8⟩
  | .hbm, ⟨8, _⟩ => ⟨S28, .f32⟩
  | .hbm, ⟨9, _⟩ => ⟨S26x1792, .fp8e4m3⟩
  | .hbm, ⟨10, _⟩ => ⟨S3584, .fp8e4m3⟩
  | .hbm, ⟨11, _⟩ => ⟨S1792x26, .fp8e4m3⟩
  | .hbm, ⟨12, _⟩ => ⟨S1792x26, .i32⟩
  | .hbm, ⟨13, _⟩ => ⟨S1792x1, .i32⟩
  | .hbm, ⟨14, _⟩ => ⟨S1792x1, .f32⟩
  | .hbm, ⟨15, _⟩ => ⟨S1x3584, .i32⟩
  | .hbm, ⟨16, _⟩ => ⟨S3584x1, .i32⟩
  | .hbm, ⟨17, _⟩ => ⟨S3584x1, .fp8e4m3⟩
  | .hbm, ⟨18, _⟩ => ⟨S28x128, .f32⟩
  | .hbm, ⟨19, _⟩ => ⟨S3584, .f32⟩
  | .hbm, ⟨20, _⟩ => ⟨S3584x1, .f32⟩
  | .hbm, ⟨21, _⟩ => ⟨S1792x1792, .bf16⟩
  | .hbm, ⟨22, _⟩ => ⟨S1792x1792, .bf16⟩
  | .hbm, ⟨23, _⟩ => ⟨S1792x10240, .bf16⟩
  | .local _ .vmem, ⟨0, _⟩ => ⟨S256x26, .fp8e4m3⟩
  | .local _ .vmem, ⟨1, _⟩ => ⟨S256x26, .fp8e4m3⟩
  | .local _ .vmem, ⟨2, _⟩ => ⟨S256x26, .i32⟩
  | .local _ .vmem, ⟨3, _⟩ => ⟨S256x26, .i32⟩
  | .local _ .vmem, ⟨4, _⟩ => ⟨S256x1, .i32⟩
  | .local _ .vmem, ⟨5, _⟩ => ⟨S256x1, .i32⟩
  | .local _ .vmem, ⟨6, _⟩ => ⟨S256x1, .f32⟩
  | .local _ .vmem, ⟨7, _⟩ => ⟨S256x1, .f32⟩
  | .local _ .vmem, ⟨8, _⟩ => ⟨S1x3584, .i32⟩
  | .local _ .vmem, ⟨9, _⟩ => ⟨S3584x1, .i32⟩
  | .local _ .vmem, ⟨10, _⟩ => ⟨S3584x1, .fp8e4m3⟩
  | .local _ .vmem, ⟨11, _⟩ => ⟨S3584x1, .f32⟩
  | .local _ .vmem, ⟨12, _⟩ => ⟨S256x1792, .bf16⟩
  | .local _ .vmem, ⟨13, _⟩ => ⟨S256x1792, .bf16⟩
  | .local _ .vmem, ⟨14, _⟩ => ⟨S256x1792, .bf16⟩
  | .local _ .vmem, ⟨15, _⟩ => ⟨S256x1792, .bf16⟩
  | .local _ .vmem, ⟨16, _⟩ => ⟨S1792x1792, .bf16⟩
  | .local _ .vmem, ⟨17, _⟩ => ⟨S1792x1792, .bf16⟩
  | .local _ .vmem, ⟨18, _⟩ => ⟨S1792x1024, .bf16⟩
  | .local _ .vmem, ⟨19, _⟩ => ⟨S1792x1024, .bf16⟩
  | .local _ .vmem, ⟨20, _⟩ => ⟨S1792x1024, .bf16⟩
  | .local _ .vmem, ⟨21, _⟩ => ⟨S1792x1024, .bf16⟩
  | _, _ => ⟨S1792x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x26 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x26 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3584x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3584x1 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3584x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1792x1792 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1792x1792 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1792x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1792x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1792x10240 : Shape := ⟨2, ![1792, 10240]⟩
abbrev S26x1792 : Shape := ⟨2, ![26, 1792]⟩
abbrev S1792 : Shape := ⟨1, ![1792]⟩
abbrev S3584 : Shape := ⟨1, ![3584]⟩
abbrev S28 : Shape := ⟨1, ![28]⟩
abbrev S28x128 : Shape := ⟨2, ![28, 128]⟩
abbrev S26 : Shape := ⟨1, ![26]⟩
abbrev S26x1 : Shape := ⟨2, ![26, 1]⟩
abbrev S1x1792 : Shape := ⟨2, ![1, 1792]⟩
abbrev S_ : Shape := ⟨0, ![]⟩
abbrev S26x1792x1 : Shape := ⟨3, ![26, 1792, 1]⟩
abbrev S26x1792x10240 : Shape := ⟨3, ![26, 1792, 10240]⟩
abbrev S1792x1 : Shape := ⟨2, ![1792, 1]⟩
abbrev S28x1 : Shape := ⟨2, ![28, 1]⟩
abbrev S3584x1 : Shape := ⟨2, ![3584, 1]⟩
abbrev S3584x10240 : Shape := ⟨2, ![3584, 10240]⟩

abbrev nBuf : Space → Nat
  | .hbm => 62
  | .vmem => 4
  | .smem => 0
  | _ => 0

abbrev bufTy : (tb : Table) → Fin (tcTables nBuf tb) → BufTy
  | .hbm, ⟨0, _⟩ => ⟨S1792x10240, .bf16⟩
  | .hbm, ⟨1, _⟩ => ⟨S26x1792, .i8⟩
  | .hbm, ⟨2, _⟩ => ⟨S26x1792, .i32⟩
  | .hbm, ⟨3, _⟩ => ⟨S1792, .i32⟩
  | .hbm, ⟨4, _⟩ => ⟨S1792, .f32⟩
  | .hbm, ⟨5, _⟩ => ⟨S3584, .i32⟩
  | .hbm, ⟨6, _⟩ => ⟨S3584, .i32⟩
  | .hbm, ⟨7, _⟩ => ⟨S3584, .i8⟩
  | .hbm, ⟨8, _⟩ => ⟨S28, .f32⟩
  | .hbm, ⟨9, _⟩ => ⟨S26x1792, .fp8e4m3⟩
  | .hbm, ⟨10, _⟩ => ⟨S3584, .fp8e4m3⟩
  | .hbm, ⟨11, _⟩ => ⟨S28x128, .fp8e4m3⟩
  | .hbm, ⟨12, _⟩ => ⟨S26x1792, .bf16⟩
  | .hbm, ⟨13, _⟩ => ⟨S28x128, .bf16⟩
  | .hbm, ⟨14, _⟩ => ⟨S26, .i32⟩
  | .hbm, ⟨15, _⟩ => ⟨S26x1, .i32⟩
  | .hbm, ⟨16, _⟩ => ⟨S1x1792, .i32⟩
  | .hbm, ⟨17, _⟩ => ⟨S26x1792, .i32⟩
  | .hbm, ⟨18, _⟩ => ⟨S26x1792, .i32⟩
  | .hbm, ⟨19, _⟩ => ⟨S26x1792, .i1⟩
  | .hbm, ⟨20, _⟩ => ⟨S_, .i32⟩
  | .hbm, ⟨21, _⟩ => ⟨S_, .bf16⟩
  | .hbm, ⟨22, _⟩ => ⟨S26x1792, .bf16⟩
  | .hbm, ⟨23, _⟩ => ⟨S26x1792, .bf16⟩
  | .hbm, ⟨24, _⟩ => ⟨S_, .i32⟩
  | .hbm, ⟨25, _⟩ => ⟨S26x1792, .i32⟩
  | .hbm, ⟨26, _⟩ => ⟨S26x1792, .i1⟩
  | .hbm, ⟨27, _⟩ => ⟨S_, .i32⟩
  | .hbm, ⟨28, _⟩ => ⟨S26x1792, .i32⟩
  | .hbm, ⟨29, _⟩ => ⟨S26x1792, .i32⟩
  | .hbm, ⟨30, _⟩ => ⟨S26x1792, .i32⟩
  | .hbm, ⟨31, _⟩ => ⟨S26x1792x1, .i32⟩
  | .hbm, ⟨32, _⟩ => ⟨S26x1792x10240, .bf16⟩
  | .hbm, ⟨33, _⟩ => ⟨S1792x10240, .f32⟩
  | .hbm, ⟨34, _⟩ => ⟨S1792x1, .f32⟩
  | .hbm, ⟨35, _⟩ => ⟨S1792x10240, .f32⟩
  | .hbm, ⟨36, _⟩ => ⟨S1792x10240, .f32⟩
  | .hbm, ⟨37, _⟩ => ⟨S28, .bf16⟩
  | .hbm, ⟨38, _⟩ => ⟨S28x1, .bf16⟩
  | .hbm, ⟨39, _⟩ => ⟨S28x128, .bf16⟩
  | .hbm, ⟨40, _⟩ => ⟨S28x128, .bf16⟩
  | .hbm, ⟨41, _⟩ => ⟨S3584, .bf16⟩
  | .hbm, ⟨42, _⟩ => ⟨S3584, .f32⟩
  | .hbm, ⟨43, _⟩ => ⟨S3584x1, .f32⟩
  | .hbm, ⟨44, _⟩ => ⟨S_, .i32⟩
  | .hbm, ⟨45, _⟩ => ⟨S3584, .i32⟩
  | .hbm, ⟨46, _⟩ => ⟨S3584, .i1⟩
  | .hbm, ⟨47, _⟩ => ⟨S_, .i32⟩
  | .hbm, ⟨48, _⟩ => ⟨S3584, .i32⟩
  | .hbm, ⟨49, _⟩ => ⟨S3584, .i32⟩
  | .hbm, ⟨50, _⟩ => ⟨S3584, .i32⟩
  | .hbm, ⟨51, _⟩ => ⟨S3584x1, .i32⟩
  | .hbm, ⟨52, _⟩ => ⟨S3584x10240, .bf16⟩
  | .hbm, ⟨53, _⟩ => ⟨S3584x10240, .f32⟩
  | .hbm, ⟨54, _⟩ => ⟨S3584x10240, .f32⟩
  | .hbm, ⟨55, _⟩ => ⟨S3584x10240, .f32⟩
  | .hbm, ⟨56, _⟩ => ⟨S_, .f32⟩
  | .hbm, ⟨57, _⟩ => ⟨S1792x10240, .f32⟩
  | .hbm, ⟨58, _⟩ => ⟨S3584x1, .i32⟩
  | .hbm, ⟨59, _⟩ => ⟨S1792x10240, .f32⟩
  | .hbm, ⟨60, _⟩ => ⟨S1792x10240, .f32⟩
  | .hbm, ⟨61, _⟩ => ⟨S1792x10240, .bf16⟩
  | .local _ .vmem, ⟨0, _⟩ => ⟨S26x1792, .fp8e4m3⟩
  | .local _ .vmem, ⟨1, _⟩ => ⟨S28x128, .fp8e4m3⟩
  | .local _ .vmem, ⟨2, _⟩ => ⟨S26x1792, .bf16⟩
  | .local _ .vmem, ⟨3, _⟩ => ⟨S28x128, .bf16⟩
  | _, _ => ⟨S1792x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S26x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S26x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/- The run of the kernel program: every execution ends with the result array at the contents that the generated boundary
    valuation `W3` gives, and the arguments as launched. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem are found by unifying its conclusion with this one, which takes unfolding
-- plain definitions in a metavariable's type
set_option backward.isDefEq.respectTransparency.types false in
/-- Every execution of the kernel program ends with the result array at `W3` and the arguments as launched. -/
theorem run : θ_run defs (onTc (τ := τ) (main (F := F))) ⟨m, fun _ => 0, ρ⟩ (fun r => ∀ c : Dev nD,
      r.2.mem ((c.tc : Thread nD τ).loc main_v13) = W3 m ρ c main_v13 ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v13 (by decide)), (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.Hand

end
-- ==== Proof.KernelBlock.lean ====
/- What the two kernel bodies compute on one block, read at an index: the densify body's accumulated row block, its two
   halves, and the product body's sum. -/
module

public import proofs.«01_k».proof.Proof.Gen.KernelIdeal.Frame
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-- What ELL slot `k` of block row `r` adds to column `j`. -/
def slotTerm (x0 : FVec Ideal S256x26 .fp8e4m3) (x1 : IVec S256x26 32) (x2 : IVec S256x1 32) (x3 : FVec Ideal S256x1 .f32)
    (r : Fin 256) (j : Fin 1792) (k : Fin 26) : EReal :=
  Scalar.select (IntOp.cmpi .eq (BitVec.ofNat 32 ↑j) (x1 (ix2 r k)))
    (Scalar.select (IntOp.cmpi .slt (BitVec.ofNat 32 ↑k) (x2 (ix2 r 0))) (x0 (ix2 r k) * x3 (ix2 r 0)) 0) 0

/-- What COO entry `e` adds to row `r` of block `i`, column `j`. -/
def cooTerm (i : grid0.Coords) (x4 : IVec S1x3584 32) (x5 : IVec S3584x1 32) (x6 : FVec Ideal S3584x1 .fp8e4m3)
    (x7 : FVec Ideal S3584x1 .f32) (r : Fin 256) (j : Fin 1792) (e : Fin 3584) : EReal :=
  Scalar.select (IntOp.cmpi .eq (BitVec.ofNat 32 ↑j) (x5 (ix2 e 0)))
    (FloatOps.sitofp (F := Ideal) .f32 (BitVec.setWidth 32 (IntOp.cmpi .eq
      (IntOp.addi (BitVec.ofNat 32 ↑r) (Scalar.muli (BitVec.ofNat 32 ↑(i 0)) 256#32)) (x4 (ix2 0 e))))
      * (x6 (ix2 e 0) * x7 (ix2 e 0))) 0

/-- The densify body's accumulator when all slots and chunks are added. -/
def ACC (i : grid0.Coords) (x0 : Vec Ideal S256x26 .fp8e4m3) (x1 : Vec Ideal S256x26 .i32) (x2 : Vec Ideal S256x1 .i32) (x3 : Vec Ideal S256x1 .f32) (x4 : Vec Ideal S1x3584 .i32) (x5 : Vec Ideal S3584x1 .i32) (x6 : Vec Ideal S3584x1 .fp8e4m3) (x7 : Vec Ideal S3584x1 .f32) : FVec Ideal S256x1792 .f32 :=
  k0_pay25 (BitVec.ofNat 32 (i 0).val) (k0_pay29 i x0 x1 x2 x3 x4 x5 x6 x7) (k0_pay30 i x0 x1 x2 x3 x4 x5 x6 x7) (k0_pay31 i x0 x1 x2 x3 x4 x5 x6 x7) (View.ld x4 r0_39) (View.ld x5 r0_40) (View.ld x4 r0_41) (View.ld x5 r0_42)

/-- A sum over 26 slots, written out. -/
theorem sum26 (f : Fin 26 → EReal) : ∑ k, f k = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 := by
  simp only [Fin.sum_univ_castSucc, Finset.univ_eq_empty, Finset.sum_empty, zero_add]
  rfl

/-- The accumulator at an index: all 26 slots and all 3584 entries. -/
theorem acc_at (i : grid0.Coords) (x0 : FVec Ideal S256x26 .fp8e4m3) (x1 : IVec S256x26 32) (x2 : IVec S256x1 32) (x3 : FVec Ideal S256x1 .f32)
    (x4 : IVec S1x3584 32) (x5 : IVec S3584x1 32) (x6 : FVec Ideal S3584x1 .fp8e4m3) (x7 : FVec Ideal S3584x1 .f32) (r : Fin 256) (j : Fin 1792) :
    ACC i x0 x1 x2 x3 x4 x5 x6 x7 (ix2 r j)
      = (∑ k : Fin 26, slotTerm x0 x1 x2 x3 r j k) + ∑ e : Fin 3584, cooTerm i x4 x5 x6 x7 r j e := by
  rw [Fin.sum_univ_tiles 7 512 rfl (cooTerm i x4 x5 x6 x7 r j)]
  rw [Fin.sum_univ_seven]
  rw [sum26]
  unfold ACC
  unfold_payloads
  pointwise [slotTerm, cooTerm]
  simp only [← add_assoc]

/-- The high half is the accumulator (a narrowing changes no extended real). -/
theorem pay32_eq (i : grid0.Coords) (x0 : Vec Ideal S256x26 .fp8e4m3) (x1 : Vec Ideal S256x26 .i32) (x2 : Vec Ideal S256x1 .i32) (x3 : Vec Ideal S256x1 .f32) (x4 : Vec Ideal S1x3584 .i32) (x5 : Vec Ideal S3584x1 .i32) (x6 : Vec Ideal S3584x1 .fp8e4m3) (x7 : Vec Ideal S3584x1 .f32) (y : S256x1792.Idx) :
    k0_pay32 (F := Ideal) i x0 x1 x2 x3 x4 x5 x6 x7 y = ACC i x0 x1 x2 x3 x4 x5 x6 x7 y := by
  unfold k0_pay32 ACC
  pointwise [k0_pay26]

/-- The low half is the accumulator less itself. -/
theorem pay1_eq (a : FVec Ideal S256x1792 .f32) (b : FVec Ideal S256x1792 .bf16) (y : S256x1792.Idx) :
    k0_pay1 (F := Ideal) a b y = (show EReal from a y) - b y := by
  pointwise [k0_pay1]
  try rfl

/-- The product body at an index: the high half's product and the low half's. -/
theorem prod_at (h : FVec Ideal S1792x1792 .bf16) (l : FVec Ideal S1792x1792 .bf16) (x : FVec Ideal S1792x1024 .bf16) (r : Fin 1792) (d : Fin 1024) :
    k1_pay1 (F := Ideal) h x l x (ix2 r d)
      = (∑ j : Fin 1792, h (ix2 r j) * x (ix2 j d)) + ∑ j : Fin 1792, l (ix2 r j) * x (ix2 j d) := by
  pointwise [k1_pay1]

end Cert.KernelIdeal.Hand

end
-- ==== Proof.KernelArray.lean ====
/- What the two regions' output arrays hold after their grids, as functions of the arrays that the regions read. -/
module

public import proofs.«01_k».proof.Proof.KernelBlock
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The value of ELL slot `k` of row `r`: zero at or past the row's length. -/
def slotVal (codes : FVec Ideal S1792x26 .fp8e4m3) (lens : IVec S1792x1 32) (sc : FVec Ideal S1792x1 .f32) (r : Fin 1792)
    (k : Fin 26) : EReal :=
  Scalar.select (IntOp.cmpi .slt (BitVec.ofNat 32 ↑k) (lens (ix2 r 0))) (codes (ix2 r k) * sc (ix2 r 0)) 0

/-- Row `r`, column `j` of the dense matrix: the ELL slots of the row whose column is `j`, and the COO entries at `(r, j)`. -/
def dense (codes : FVec Ideal S1792x26 .fp8e4m3) (cols : IVec S1792x26 32) (lens : IVec S1792x1 32) (sc : FVec Ideal S1792x1 .f32)
    (crows : IVec S1x3584 32) (ccols : IVec S3584x1 32) (ccodes : FVec Ideal S3584x1 .fp8e4m3) (csc : FVec Ideal S3584x1 .f32)
    (r : Fin 1792) (j : Fin 1792) : EReal :=
  (∑ k : Fin 26, Scalar.select (IntOp.cmpi .eq (BitVec.ofNat 32 ↑j) (cols (ix2 r k))) (slotVal codes lens sc r k) 0)
    + ∑ e : Fin 3584, Scalar.select (IntOp.cmpi .eq (BitVec.ofNat 32 ↑j) (ccols (ix2 e 0)))
        (FloatOps.sitofp (F := Ideal) .f32 (BitVec.setWidth 32 (IntOp.cmpi .eq (BitVec.ofNat 32 ↑r) (crows (ix2 0 e))))
          * (ccodes (ix2 e 0) * csc (ix2 e 0))) 0

variable (V : (c : Dev nD) → (b : Ref sig .tc) → Buf (Elt Ideal) ((c : Thread nD τ).loc b))

/-- The dense matrix of the arrays that region 0 reads. -/
def D (c : Dev nD) (r j : Fin 1792) : EReal :=
  dense (V c main_v2) (V c main_v3) (V c main_v4) (V c main_v5) (V c main_v6) (V c main_v7) (V c main_v8) (V c main_v11) r j

/-- Region 0's index maps at every point. -/
theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ (grid0.coords t 0).val = t.val
    ∧ t.val < 7 :=
  (by decide +kernel : ∀ t : Fin grid0.N, _)

/-- The word of a block row: its place in the block and the block's first row. -/
theorem row_word (r : Fin 256) (t : ℕ) :
    IntOp.addi (BitVec.ofNat 32 ↑r) (Scalar.muli (BitVec.ofNat 32 t) 256#32) = BitVec.ofNat 32 (t * 256 + ↑r) := by
  show BitVec.ofNat 32 ↑r + BitVec.ofNat 32 t * BitVec.ofNat 32 256 = _
  rw [← BitVec.ofNat_mul, ← BitVec.ofNat_add, Nat.add_comm]

/-- The accumulator of point `t` is the rows of the dense matrix that block `t` holds. -/
theorem acc_dense (c : Dev nD) (t : Fin cfg0.N) (r : Fin 256) (j : Fin 1792) (R : Fin 1792) (hR : (R : ℕ) = t.val * 256 + r) :
    ACC (grid0.coords t) (iblk0 V c 0 t) (iblk0 V c 1 t) (iblk0 V c 2 t) (iblk0 V c 3 t) (iblk0 V c 4 t) (iblk0 V c 5 t)
      (iblk0 V c 6 t) (iblk0 V c 7 t) (ix2 r j) = D V c R j := by
  rw [acc_at]
  unfold D dense slotVal slotTerm cooTerm
  simp only [row_word, (idx0 t).2.2.2.2.2.2.2.2.2.2.1, ← hR]
  blk_point [iblk0, idx0 t]

/-- The high half's array after region 0. -/
theorem hi_array (c : Dev nD) : (dat0 V c).arrAt 8 cfg0.N = fun i => D V c (i 0) (i 1) := by
  refine (dat0 V c).arrAt_eq_of_covers 8 _ (by decide +kernel) fun t _ y => ?_
  blk_simp
  rw [after0_8]
  frame_out
  rw [pay32_eq]
  idx_vars y
  refine (acc_dense V c t y0 y1 _ ?_).trans (congrArg (D V c _) (Fin.ext ?_))
  · blk_simp [idx0 t]
  · blk_simp [idx0 t]

/-- The low half's array after region 0: the dense matrix less itself. -/
theorem lo_array (c : Dev nD) : (dat0 V c).arrAt 9 cfg0.N = fun i => D V c (i 0) (i 1) - D V c (i 0) (i 1) := by
  refine (dat0 V c).arrAt_eq_of_covers 9 _ (by decide +kernel) fun t _ y => ?_
  blk_simp
  rw [after0_9]
  frame_out
  rw [pay1_eq, pay32_eq]
  idx_vars y
  have h : ACC (grid0.coords t) (iblk0 V c 0 t) (iblk0 V c 1 t) (iblk0 V c 2 t) (iblk0 V c 3 t) (iblk0 V c 4 t) (iblk0 V c 5 t)
      (iblk0 V c 6 t) (iblk0 V c 7 t) (ix2 y0 y1)
      = D V c (((cfg0.win 9).blk t).view.emb (ix2 y0 y1) 0) (((cfg0.win 9).blk t).view.emb (ix2 y0 y1) 1) := by
    refine (acc_dense V c t y0 y1 _ ?_).trans (congrArg (D V c _) (Fin.ext ?_))
    · blk_simp [idx0 t]
    · blk_simp [idx0 t]
  exact congrArg (fun e : EReal => e - e) h

/-- Region 1's index maps at every point. -/
theorem idx1 : ∀ t : Fin cfg1.N, win1_0.index t = ![0, 0] ∧ win1_1.index t = ![0, 0] ∧ win1_2.index t = ![0, t.val]
    ∧ win1_3.index t = ![0, t.val] ∧ t.val < 10 :=
  (by decide +kernel : ∀ t : Fin grid1.N, _)

/-- The product of the two halves with `x`. -/
def prod (h l : FVec Ideal S1792x1792 .bf16) (x : FVec Ideal S1792x10240 .bf16) (r : Fin 1792) (d : Fin 10240) : EReal :=
  (∑ j : Fin 1792, h (ix2 r j) * x (ix2 j d)) + ∑ j : Fin 1792, l (ix2 r j) * x (ix2 j d)

/-- The result array after region 1: the product, column tile by column tile. -/
theorem out_array (c : Dev nD) : (dat1 V c).arrAt 3 cfg1.N
    = fun i => prod (V c main_v12_0) (V c main_v12_1) (V c main_arg0) (i 0) (i 1) := by
  refine (dat1 V c).arrAt_eq_of_covers 3 _ (by decide +kernel) fun t _ y => ?_
  blk_simp
  rw [after1_3]
  frame_out
  idx_vars y
  refine (prod_at _ _ _ y0 y1).trans ?_
  unfold prod
  blk_point [iblk1, idx1 t]

end Cert.KernelIdeal.Hand

end
-- ==== Proof.KernelValue.lean ====
/- The kernel program's result array as a function of its nine arguments. -/
module

public import proofs.«01_k».proof.Proof.KernelArray
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The ELL codes, rows first. -/
theorem v2_at (c : Dev nD) (r : Fin 1792) (k : Fin 26) :
    V1 m ρ c main_v2 (ix2 r k) = bitcastToFloat (F := Ideal) .fp8e4m3 (m ((c : Thread nD τ).loc main_arg1)) (ix2 k r) := by
  unfold V1 W1
  after_reads_at

/-- The ELL columns, rows first. -/
theorem v3_at (c : Dev nD) (r : Fin 1792) (k : Fin 26) :
    V1 m ρ c main_v3 (ix2 r k) = m ((c : Thread nD τ).loc main_arg2) (ix2 k r) := by
  unfold V1 W1
  after_reads_at

/-- The row lengths. -/
theorem v4_at (c : Dev nD) (r : Fin 1792) :
    V1 m ρ c main_v4 (ix2 r 0) = m ((c : Thread nD τ).loc main_arg3) (ix1 r) := by
  unfold V1 W1
  after_reads_at

/-- The row scales. -/
theorem v5_at (c : Dev nD) (r : Fin 1792) :
    V1 m ρ c main_v5 (ix2 r 0) = m ((c : Thread nD τ).loc main_arg4) (ix1 r) := by
  unfold V1 W1
  after_reads_at

/-- The COO rows. -/
theorem v6_at (c : Dev nD) (e : Fin 3584) :
    V1 m ρ c main_v6 (ix2 0 e) = m ((c : Thread nD τ).loc main_arg5) (ix1 e) := by
  unfold V1 W1
  after_reads_at

/-- The COO columns. -/
theorem v7_at (c : Dev nD) (e : Fin 3584) :
    V1 m ρ c main_v7 (ix2 e 0) = m ((c : Thread nD τ).loc main_arg6) (ix1 e) := by
  unfold V1 W1
  after_reads_at

/-- The COO codes. -/
theorem v8_at (c : Dev nD) (e : Fin 3584) :
    V1 m ρ c main_v8 (ix2 e 0) = bitcastToFloat (F := Ideal) .fp8e4m3 (m ((c : Thread nD τ).loc main_arg7)) (ix1 e) := by
  unfold V1 W1
  after_reads_at

/-- The COO scales: one per 128 entries. -/
theorem v11_at (c : Dev nD) (e : Fin 3584) :
    V1 m ρ c main_v11 (ix2 e 0) = m ((c : Thread nD τ).loc main_arg8) (ix1 ⟨↑e / 128, by omega⟩) := by
  unfold V1 W1
  after_reads_at

/-- The value of ELL slot `k` of row `r` from the argument arrays. -/
def slotOf (codes : FVec Ideal S26x1792 .fp8e4m3) (lens : IVec S1792 32) (sc : FVec Ideal S1792 .f32) (r : Fin 1792) (k : Fin 26) : EReal :=
  Scalar.select (IntOp.cmpi .slt (BitVec.ofNat 32 ↑k) (lens (ix1 r))) (codes (ix2 k r) * sc (ix1 r)) 0

/-- Entry `(r, j)` of the dense matrix from the argument arrays. -/
def denseOf (codes : FVec Ideal S26x1792 .fp8e4m3) (cols : IVec S26x1792 32) (lens : IVec S1792 32) (sc : FVec Ideal S1792 .f32)
    (crows ccols : IVec S3584 32) (ccodes : FVec Ideal S3584 .fp8e4m3) (csc : FVec Ideal S28 .f32) (r j : Fin 1792) : EReal :=
  (∑ k : Fin 26, Scalar.select (IntOp.cmpi .eq (BitVec.ofNat 32 ↑j) (cols (ix2 k r))) (slotOf codes lens sc r k) 0)
    + ∑ e : Fin 3584, Scalar.select (IntOp.cmpi .eq (BitVec.ofNat 32 ↑j) (ccols (ix1 e)))
        (FloatOps.sitofp (F := Ideal) .f32 (BitVec.setWidth 32 (IntOp.cmpi .eq (BitVec.ofNat 32 ↑r) (crows (ix1 e))))
          * (ccodes (ix1 e) * csc (ix1 ⟨↑e / 128, by omega⟩))) 0

/-- The kernel's result at `(r, d)`: the dense matrix's row times `x`, and the same of the matrix less itself. -/
def kernelOf (x : FVec Ideal S1792x10240 .bf16) (codes : FVec Ideal S26x1792 .fp8e4m3) (cols : IVec S26x1792 32) (lens : IVec S1792 32)
    (sc : FVec Ideal S1792 .f32) (crows ccols : IVec S3584 32) (ccodes : FVec Ideal S3584 .fp8e4m3) (csc : FVec Ideal S28 .f32)
    (r : Fin 1792) (d : Fin 10240) : EReal :=
  (∑ j : Fin 1792, denseOf codes cols lens sc crows ccols ccodes csc r j * x (ix2 j d))
    + ∑ j : Fin 1792, (denseOf codes cols lens sc crows ccols ccodes csc r j - denseOf codes cols lens sc crows ccols ccodes csc r j)
        * x (ix2 j d)

/-- The dense matrix, its arrays read as the argument arrays. -/
theorem dense_congr (codesT : FVec Ideal S1792x26 .fp8e4m3) (colsT : IVec S1792x26 32) (lensT : IVec S1792x1 32) (scT : FVec Ideal S1792x1 .f32)
    (crowsT : IVec S1x3584 32) (ccolsT : IVec S3584x1 32) (ccodesT : FVec Ideal S3584x1 .fp8e4m3) (cscT : FVec Ideal S3584x1 .f32)
    (codes : FVec Ideal S26x1792 .fp8e4m3) (cols : IVec S26x1792 32) (lens : IVec S1792 32) (sc : FVec Ideal S1792 .f32)
    (crows ccols : IVec S3584 32) (ccodes : FVec Ideal S3584 .fp8e4m3) (csc : FVec Ideal S28 .f32)
    (h2 : ∀ (r : Fin 1792) (k : Fin 26), codesT (ix2 r k) = codes (ix2 k r)) (h3 : ∀ (r : Fin 1792) (k : Fin 26), colsT (ix2 r k) = cols (ix2 k r))
    (h4 : ∀ r : Fin 1792, lensT (ix2 r 0) = lens (ix1 r)) (h5 : ∀ r : Fin 1792, scT (ix2 r 0) = sc (ix1 r))
    (h6 : ∀ e : Fin 3584, crowsT (ix2 0 e) = crows (ix1 e)) (h7 : ∀ e : Fin 3584, ccolsT (ix2 e 0) = ccols (ix1 e))
    (h8 : ∀ e : Fin 3584, ccodesT (ix2 e 0) = ccodes (ix1 e))
    (h11 : ∀ e : Fin 3584, cscT (ix2 e 0) = csc (ix1 ⟨↑e / 128, by omega⟩)) (r j : Fin 1792) :
    dense codesT colsT lensT scT crowsT ccolsT ccodesT cscT r j = denseOf codes cols lens sc crows ccols ccodes csc r j := by
  unfold dense slotVal denseOf slotOf
  simp only [h2, h3, h4, h5, h6, h7, h8, h11]

/-- The product of two halves that are the dense matrix, and it less itself. -/
theorem prod_kernelOf (h l : FVec Ideal S1792x1792 .bf16) (x : FVec Ideal S1792x10240 .bf16)
    (codes : FVec Ideal S26x1792 .fp8e4m3) (cols : IVec S26x1792 32) (lens : IVec S1792 32) (sc : FVec Ideal S1792 .f32)
    (crows ccols : IVec S3584 32) (ccodes : FVec Ideal S3584 .fp8e4m3) (csc : FVec Ideal S28 .f32)
    (hh : ∀ r j : Fin 1792, h (ix2 r j) = denseOf codes cols lens sc crows ccols ccodes csc r j)
    (hl : ∀ r j : Fin 1792, l (ix2 r j) = denseOf codes cols lens sc crows ccols ccodes csc r j - denseOf codes cols lens sc crows ccols ccodes csc r j)
    (r : Fin 1792) (d : Fin 10240) : prod h l x r d = kernelOf x codes cols lens sc crows ccols ccodes csc r d := by
  unfold prod kernelOf
  simp only [hh, hl]

/-- The dense matrix of region 0's arrays is that of the arguments. -/
theorem D_args (c : Dev nD) (r j : Fin 1792) : D (V1 m ρ) c r j
    = denseOf (bitcastToFloat (F := Ideal) .fp8e4m3 (m ((c : Thread nD τ).loc main_arg1))) (m ((c : Thread nD τ).loc main_arg2))
        (m ((c : Thread nD τ).loc main_arg3)) (m ((c : Thread nD τ).loc main_arg4)) (m ((c : Thread nD τ).loc main_arg5))
        (m ((c : Thread nD τ).loc main_arg6)) (bitcastToFloat (F := Ideal) .fp8e4m3 (m ((c : Thread nD τ).loc main_arg7)))
        (m ((c : Thread nD τ).loc main_arg8)) r j :=
  dense_congr _ _ _ _ _ _ _ _ _ _ _ _ _ _ _ _ (v2_at m ρ c) (v3_at m ρ c) (v4_at m ρ c) (v5_at m ρ c) (v6_at m ρ c) (v7_at m ρ c)
    (v8_at m ρ c) (v11_at m ρ c) r j

/-- The result array of the kernel program. -/
theorem result (c : Dev nD) : W3 m ρ c main_v13 = fun i =>
    kernelOf (m ((c : Thread nD τ).loc main_arg0)) (bitcastToFloat (F := Ideal) .fp8e4m3 (m ((c : Thread nD τ).loc main_arg1)))
        (m ((c : Thread nD τ).loc main_arg2))
        (m ((c : Thread nD τ).loc main_arg3)) (m ((c : Thread nD τ).loc main_arg4)) (m ((c : Thread nD τ).loc main_arg5))
        (m ((c : Thread nD τ).loc main_arg6)) (bitcastToFloat (F := Ideal) .fp8e4m3 (m ((c : Thread nD τ).loc main_arg7)))
        (m ((c : Thread nD τ).loc main_arg8)) (i 0) (i 1) := by
  have h3 : W3 m ρ c main_v13 = (dat1 (V2 m ρ) c).arrAt 3 cfg1.N := W3_arr m ρ c 3
  have h8 : V2 m ρ c main_v12_0 = fun i => D (V1 m ρ) c (i 0) (i 1) := (W2_arr m ρ c 8).trans (hi_array (V1 m ρ) c)
  have h9 : V2 m ρ c main_v12_1 = fun i => D (V1 m ρ) c (i 0) (i 1) - D (V1 m ρ) c (i 0) (i 1) :=
    (W2_arr m ρ c 9).trans (lo_array (V1 m ρ) c)
  have h0 : V2 m ρ c main_arg0 = m ((c : Thread nD τ).loc main_arg0) := W2_args m ρ c main_arg0 (by decide)
  rw [h3, out_array, h8, h9, h0]
  funext i
  refine prod_kernelOf _ _ _ _ _ _ _ _ _ _ _ (fun r j => D_args m ρ c r j) (fun r j => ?_) (i 0) (i 1)
  exact congrArg (fun e : EReal => e - e) (D_args m ρ c r j)

end Cert.KernelIdeal.Hand

end
-- ==== Proof.ReferenceOps.lean ====
/- The reference program's gathers and scatter, each read at one index. -/
module

public import proofs.«01_k».proof.Proof.Gen.ReferenceIdeal.Frame
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The row of `x` that a word names: read signed and clamped to the array. -/
def rowOf (w : BitVec 32) : Fin 1792 := ⟨min w.toInt.toNat 1791, by omega⟩

/-- The gather of one row of `x` per ELL slot. -/
theorem gather_ell {α : Type} (x : S1792x10240.Idx → α) (idx : IVec S26x1792x1 32) (k : Fin 26) (r : Fin 1792) (d : Fin 10240) :
    Host.gather gather_S1792x10240_S26x1792x1_S26x1792x10240_2_0_n_n_0_2_110240 x idx (ix3 k r d)
      = x (ix2 (rowOf (idx (ix3 k r 0))) d) := by
  refine congrArg x (funext fun a => Fin.ext ?_)
  match a with
  | ⟨0, _⟩ =>
    refine congrArg (fun i => min (idx i).toInt.toNat 1791 + 0 + 0) (funext fun b => ?_)
    match b with
    | ⟨0, _⟩ => rfl
    | ⟨1, _⟩ => rfl
    | ⟨2, _⟩ => rfl
  | ⟨1, _⟩ => exact Nat.zero_add _

/-- The gather of one row of `x` per COO entry. -/
theorem gather_coo {α : Type} (x : S1792x10240.Idx → α) (idx : IVec S3584x1 32) (e : Fin 3584) (d : Fin 10240) :
    Host.gather gather_S1792x10240_S3584x1_S3584x10240_1_0_n_n_0_1_110240 x idx (ix2 e d)
      = x (ix2 (rowOf (idx (ix2 e 0))) d) := by
  refine congrArg x (funext fun a => Fin.ext ?_)
  match a with
  | ⟨0, _⟩ =>
    refine congrArg (fun i => min (idx i).toInt.toNat 1791 + 0 + 0) (funext fun b => ?_)
    match b with
    | ⟨0, _⟩ => rfl
    | ⟨1, _⟩ => rfl
  | ⟨1, _⟩ => exact Nat.zero_add _

/-- Update `(e, d')` of the scatter lands at `(r, d)` exactly when entry `e`'s word, read signed, is `r`, and `d' = d`. -/
theorem lands (idx : IVec S3584x1 32) (e : Fin 3584) (d' : Fin 10240) (r : Fin 1792) (d : Fin 10240) :
    scatter_S1792x10240_S3584x1_S3584x10240_1_0_0_1.resultIdx? (ix2 e d') idx = some (ix2 r d)
      ↔ (idx (ix2 e 0)).toInt = r.val ∧ d' = d := by
  rw [Routing.resultIdx?_eq_some]
  have h0 : scatter_S1792x10240_S3584x1_S3584x10240_1_0_0_1.start (ix2 e d') idx 0 = (idx (ix2 e 0)).toInt := by
    refine congrArg (fun i => (idx i).toInt) (funext fun a => ?_)
    match a with
    | ⟨0, _⟩ => rfl
    | ⟨1, _⟩ => rfl
  have h1 : scatter_S1792x10240_S3584x1_S3584x10240_1_0_0_1.start (ix2 e d') idx 1 = 0 := rfl
  have w0 : scatter_S1792x10240_S3584x1_S3584x10240_1_0_0_1.window (ix2 e d') 0 = 0 := rfl
  have w1 : scatter_S1792x10240_S3584x1_S3584x10240_1_0_0_1.window (ix2 e d') 1 = d'.val := rfl
  have v0 : ((ix2 r d : S1792x10240.Idx) 0).val = r.val := rfl
  have v1 : ((ix2 r d : S1792x10240.Idx) 1).val = d.val := rfl
  constructor
  · intro h
    have a0 := h 0
    have a1 := h 1
    rw [h0, w0, v0] at a0
    rw [h1, w1, v1] at a1
    exact ⟨by omega, Fin.ext (by omega)⟩
  · rintro ⟨q, rfl⟩ a
    match a with
    | ⟨0, _⟩ =>
      show scatter_S1792x10240_S3584x1_S3584x10240_1_0_0_1.start (ix2 e d') idx 0
        + (scatter_S1792x10240_S3584x1_S3584x10240_1_0_0_1.window (ix2 e d') 0 : Int) = _
      rw [h0, w0, q]; rfl
    | ⟨1, _⟩ =>
      show scatter_S1792x10240_S3584x1_S3584x10240_1_0_0_1.start (ix2 e d') idx 1
        + (scatter_S1792x10240_S3584x1_S3584x10240_1_0_0_1.window (ix2 e d') 1 : Int) = _
      rw [h1, w1]; exact Int.zero_add _

/-- The accumulating scatter at one index: what was there and the updates of the entries whose word is that row. -/
theorem scatter_at (z : FVec Ideal S1792x10240 .f32) (idx : IVec S3584x1 32) (upd : FVec Ideal S3584x10240 .f32) (r : Fin 1792)
    (d : Fin 10240) :
    Host.scatterAdd scatter_S1792x10240_S3584x1_S3584x10240_1_0_0_1 z idx upd (ix2 r d)
      = z (ix2 r d) + ∑ e : Fin 3584, if (idx (ix2 e 0)).toInt = r.val then upd (ix2 e d) else 0 := by
  refine congrArg (z (ix2 r d) + ·) ?_
  rw [Finset.sum_filter, sum_idx2]
  refine Finset.sum_congr rfl fun e _ => ?_
  simp only [lands]
  by_cases h : (idx (ix2 e 0)).toInt = r.val
  · simp only [h, true_and, if_true]
    exact (Finset.sum_ite_eq' Finset.univ d fun d' => upd (ix2 e d')).trans (if_pos (Finset.mem_univ d))
  · simp only [h, false_and, if_false, Finset.sum_const_zero]

/-- jnp's reading of a row index: a negative one counts from the end. -/
def wrap (w : BitVec 32) : BitVec 32 := Scalar.select (IntOp.cmpi .slt w 0#32) (IntOp.addi w 1792#32) w

/-- The reference's result at row `r` and column `d`, of the widened codes and the other arguments. -/
def referenceOf (x : FVec Ideal S1792x10240 .bf16) (codes : FVec Ideal S26x1792 .bf16) (cols : IVec S26x1792 32) (lens : IVec S1792 32)
    (sc : FVec Ideal S1792 .f32) (crows ccols : IVec S3584 32) (ccodes : Fin 3584 → EReal) (csc : FVec Ideal S28 .f32)
    (r : Fin 1792) (d : Fin 10240) : EReal :=
  (∑ k : Fin 26, Scalar.select (IntOp.cmpi .slt (BitVec.ofNat 32 ↑k) (lens (ix1 r))) (codes (ix2 k r))
      (FloatOps.sitofp (F := Ideal) .bf16 0#32) * x (ix2 (rowOf (wrap (cols (ix2 k r)))) d)) * sc (ix1 r)
    + (FloatOps.ofBits (F := Ideal) .f32 0#32 + ∑ e : Fin 3584, if (crows (ix1 e)).toInt = r.val then
        (ccodes e * csc (ix1 ⟨↑e / 128, by omega⟩))
          * x (ix2 (rowOf (wrap (ccols (ix1 e)))) d) else 0)

end Cert.ReferenceIdeal.Hand

end
-- ==== Proof.ReferenceValue.lean ====
/- The reference program's result array as a function of its nine arguments. -/
module

public import proofs.«01_k».proof.Proof.ReferenceOps
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region's index maps at its point. -/
theorem idx0 : win0_0.index t0_0 = ![0, 0] ∧ win0_1.index t0_0 = ![0, 0] :=
  by decide +kernel

/-- The widened ELL codes. -/
theorem ell_array (c : Dev nD) : (dats m 0 c).arrAt 2 cfg0.N
    = bitcastToFloat (F := Ideal) .fp8e4m3 (m ((c : Thread nD τ).loc main_arg1)) := by
  refine (dats m 0 c).arrAt_eq_of_after_last 2 t0_0 (by decide +kernel) _ fun j => ?_
  blk_simp
  rw [after0_2]
  frame_out
  blk_point [iblk, V, idx0]

/-- The widened COO codes, 128 to a row. -/
theorem coo_array (c : Dev nD) : (dats m 0 c).arrAt 3 cfg0.N = V m c main_v2 := by
  refine (dats m 0 c).arrAt_eq_of_after_last 3 t0_0 (by decide +kernel) _ fun j => ?_
  blk_simp
  rw [after0_3]
  frame_out
  blk_point [iblk, idx0]

/-- A COO code in the array that the region reads. -/
theorem v2_at (c : Dev nD) (e : Fin 3584) : V m c main_v2 (ix2 ⟨↑e / 128, by omega⟩ ⟨↑e % 128, by omega⟩)
    = bitcastToFloat (F := Ideal) .fp8e4m3 (m ((c : Thread nD τ).loc main_arg7)) (ix1 e) := by
  unfold V V0
  after_reads_at

/-- The lines after the region leave the result array at `referenceOf` of what they start from. -/
theorem tail_at (W : Valuation τ sig (Elt Ideal)) (r : Fin 1792) (d : Fin 10240) :
    StableHlo.after (List.flatten [hostOps1, hostOps1_1, hostOps1_2]) W main_v43 (ix2 r d)
      = referenceOf (W main_arg0) (W main_v3_0) (W main_arg2) (W main_arg3) (W main_arg4) (W main_arg5) (W main_arg6)
          (fun e => (W main_v3_1 : FVec Ideal S28x128 .bf16) (ix2 ⟨↑e / 128, by omega⟩ ⟨↑e % 128, by omega⟩)) (W main_arg8) r d := by
  after_reads_at
  rw [scatter_at]
  simp only [gather_ell]
  unfold referenceOf wrap
  pointwise [gather_coo]

/-- `referenceOf` of equal arguments. -/
theorem referenceOf_congr {x x' : FVec Ideal S1792x10240 .bf16} {codes codes' : FVec Ideal S26x1792 .bf16}
    {cols cols' : IVec S26x1792 32} {lens lens' : IVec S1792 32} {sc sc' : FVec Ideal S1792 .f32} {crows crows' ccols ccols' : IVec S3584 32}
    {ccodes ccodes' : Fin 3584 → EReal} {csc csc' : FVec Ideal S28 .f32} (h0 : x = x') (h1 : codes = codes') (h2 : cols = cols')
    (h3 : lens = lens') (h4 : sc = sc') (h5 : crows = crows') (h6 : ccols = ccols') (h7 : ccodes = ccodes') (h8 : csc = csc')
    (r : Fin 1792) (d : Fin 10240) :
    referenceOf x codes cols lens sc crows ccols ccodes csc r d = referenceOf x' codes' cols' lens' sc' crows' ccols' ccodes' csc' r d := by
  subst h0 h1 h2 h3 h4 h5 h6 h7 h8
  rfl

/-- An array that the region does not write holds, after it, what it held at launch. -/
theorem kept (c : Dev nD) (b : Ref sig .tc) (hb : ∀ w, Pipeline.arrRef spec0 w ≠ b) :
    Pipeline.withArrays (cfgs 0).spec c (V0 m c) (fun w => (dats m 0 c).arrAt w (cfgs 0).N) (Proc.devRef .tc b) = V m c b :=
  Pipeline.withArrays_of_ne _ c (V0 m c) _ b hb

/-- The result array of the reference program. -/
theorem result (c : Dev nD) :
    Pipeline.afterTail₀ cfgs (dats m) 0 (V0 m) [hostOps1, hostOps1_1, hostOps1_2] c main_v43
      = fun i : S1792x10240.Idx => referenceOf (m ((c : Thread nD τ).loc main_arg0))
          (bitcastToFloat (F := Ideal) .fp8e4m3 (m ((c : Thread nD τ).loc main_arg1))) (m ((c : Thread nD τ).loc main_arg2))
          (m ((c : Thread nD τ).loc main_arg3)) (m ((c : Thread nD τ).loc main_arg4)) (m ((c : Thread nD τ).loc main_arg5))
          (m ((c : Thread nD τ).loc main_arg6))
          (fun e => bitcastToFloat (F := Ideal) .fp8e4m3 (m ((c : Thread nD τ).loc main_arg7)) (ix1 e))
          (m ((c : Thread nD τ).loc main_arg8)) (i 0) (i 1) := by
  funext i
  idx_vars i
  unfold Pipeline.afterTail₀
  refine (tail_at _ i0 i1).trans (referenceOf_congr ?_ ?_ ?_ ?_ ?_ ?_ ?_ ?_ ?_ i0 i1)
  · exact (kept m c main_arg0 (by exact (by decide : ∀ w, Pipeline.arrRef spec0 w ≠ main_arg0))).trans (V_main_arg0 m c)
  · exact (Pipeline.withArrays_arr _ launch0.win.arr_inj c (V0 m c) _ 2).trans (ell_array m c)
  · exact (kept m c main_arg2 (by exact (by decide : ∀ w, Pipeline.arrRef spec0 w ≠ main_arg2))).trans (V_main_arg2 m c)
  · exact (kept m c main_arg3 (by exact (by decide : ∀ w, Pipeline.arrRef spec0 w ≠ main_arg3))).trans (V_main_arg3 m c)
  · exact (kept m c main_arg4 (by exact (by decide : ∀ w, Pipeline.arrRef spec0 w ≠ main_arg4))).trans (V_main_arg4 m c)
  · exact (kept m c main_arg5 (by exact (by decide : ∀ w, Pipeline.arrRef spec0 w ≠ main_arg5))).trans (V_main_arg5 m c)
  · exact (kept m c main_arg6 (by exact (by decide : ∀ w, Pipeline.arrRef spec0 w ≠ main_arg6))).trans (V_main_arg6 m c)
  · funext e
    exact (congrFun ((Pipeline.withArrays_arr _ launch0.win.arr_inj c (V0 m c) _ 3).trans (coo_array m c)) _).trans (v2_at m c e)
  · exact (kept m c main_arg8 (by exact (by decide : ∀ w, Pipeline.arrRef spec0 w ≠ main_arg8))).trans (V_main_arg8 m c)

/-- Every execution of the reference program ends with the result array at the lines' value, and the arguments as launched. -/
theorem run : θ_run defs (onTc (τ := τ) (main (F := Ideal))) ⟨m, fun _ => 0, ρ⟩ (fun r => ∀ c : Dev nD,
      r.2.mem ((c.tc : Thread nD τ).loc main_v43)
        = Pipeline.afterTail₀ cfgs (dats m) 0 (V0 m) [hostOps1, hostOps1_1, hostOps1_2] c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun _ h c => ⟨(h.1 c).2 main_v43 (Pipeline.mem_restRefs_of main_v43 (by decide) (by decide)), h.2 c⟩)
    (θ_run_and (run_main m ρ) (unchanged m ρ))

end Cert.ReferenceIdeal.Hand

end
-- ==== Proof.Equation.lean ====
/- The mathematics: on finite inputs the kernel's formula and the reference's are one value. Both are lifted to the reals, where
   the sum over the columns of the dense matrix goes inside and meets each slot's one column. -/
module

public import proofs.«01_k».proof.Proof.KernelValue
public import proofs.«01_k».proof.Proof.ReferenceValue
public import Idealize.ShloMosaic.Lib.WordCmp

@[expose] public section

set_option maxRecDepth 16384

noncomputable section

namespace Cert.Equation

open Idealize.ShloMosaic
open Cert.KernelIdeal.Hand (kernelOf denseOf slotOf)
open Cert.ReferenceIdeal.Hand (referenceOf rowOf wrap)

/-- A finite sum of reals, in the extended reals. -/
theorem coe_sum {ι : Type} [Fintype ι] (f : ι → ℝ) : ((∑ i, f i : ℝ) : EReal) = ∑ i, (f i : EReal) :=
  map_sum (⟨⟨(↑), EReal.coe_zero⟩, EReal.coe_add⟩ : ℝ →+ EReal) f Finset.univ

/-- Summing over the columns a sum whose every term sits at one column. -/
theorem one_column {κ J : Type} [Fintype κ] [Fintype J] [DecidableEq J] (p : κ → J → Prop) [∀ k j, Decidable (p k j)] (v : κ → ℝ)
    (q : κ → J) (x : J → ℝ) (h : ∀ k, v k = 0 ∨ ∀ j, p k j ↔ j = q k) :
    ∑ j, (∑ k, if p k j then v k else 0) * x j = ∑ k, v k * x (q k) := by
  simp only [Finset.sum_mul]
  rw [Finset.sum_comm]
  refine Finset.sum_congr rfl fun k _ => ?_
  rcases h k with h | h
  · simp only [h, ite_self, zero_mul, Finset.sum_const_zero]
  · simp only [h, ite_mul, zero_mul]
    exact (Finset.sum_ite_eq' Finset.univ (q k) fun j => v k * x j).trans (if_pos (Finset.mem_univ _))

/-- A select on an equality of words. -/
theorem select_eq {α : Type} (a b : BitVec 32) (u v : α) : Scalar.select (IntOp.cmpi .eq a b) u v = if a = b then u else v := by
  rw [WordCmp.cmpi_eq_eq, WordCmp.select_decide]

/-- An equality of words as a number. -/
theorem indicator (a b : BitVec 32) :
    FloatOps.sitofp (F := Ideal) .f32 (BitVec.setWidth 32 (IntOp.cmpi .eq a b)) = ((if a = b then 1 else 0 : ℝ) : EReal) := by
  rw [WordCmp.cmpi_eq_eq]
  show (((BitVec.setWidth 32 (BitVec.ofBool (decide (a = b)))).toInt : ℝ) : EReal) = _
  by_cases h : a = b
  · simp [h]
  · simp [h]

/-- A number below 1792 is a word exactly when the word, read signed, is the number. -/
theorem word_eq (r : Fin 1792) (w : BitVec 32) : BitVec.ofNat 32 ↑r = w ↔ w.toInt = (r.val : Int) := by
  have hr := r.isLt
  constructor
  · rintro rfl
    exact WordCmp.toInt_ofNat_of_lt (by omega)
  · intro h
    apply BitVec.eq_of_toInt_eq
    rw [h]
    exact WordCmp.toInt_ofNat_of_lt (by omega)

/-- A word in range names its own row. -/
theorem row_eq (j : Fin 1792) (w : BitVec 32) (h0 : 0 ≤ w.toInt) (h1 : w.toInt < 1792) :
    BitVec.ofNat 32 ↑j = w ↔ j = rowOf (wrap w) := by
  have hw : wrap w = w := by
    unfold wrap
    rw [WordCmp.cmpi_slt_eq, WordCmp.select_decide, if_neg]
    have : (0#32).toInt = 0 := rfl
    omega
  rw [word_eq, hw, Fin.ext_iff]
  show _ ↔ j.val = min w.toInt.toNat 1791
  omega

/-- The equation. -/
theorem kernel_eq_reference (x : (⟨2, ![1792, 10240]⟩ : Shape).Idx → EReal) (codes : (⟨2, ![26, 1792]⟩ : Shape).Idx → EReal)
    (cols : (⟨2, ![26, 1792]⟩ : Shape).Idx → BitVec 32) (lens : (⟨1, ![1792]⟩ : Shape).Idx → BitVec 32)
    (sc : (⟨1, ![1792]⟩ : Shape).Idx → EReal) (crows ccols : (⟨1, ![3584]⟩ : Shape).Idx → BitVec 32)
    (ccodes : (⟨1, ![3584]⟩ : Shape).Idx → EReal) (csc : (⟨1, ![28]⟩ : Shape).Idx → EReal)
    (hx : ∀ j d, ∃ a : ℝ, x (ix2 j d) = a) (hsc : ∀ r, ∃ a : ℝ, sc (ix1 r) = a) (hcsc : ∀ b, ∃ a : ℝ, csc (ix1 b) = a)
    (hell : ∀ (k : Fin 26) r, (lens (ix1 r)).toInt ≤ k.val
      ∨ ((∃ a : ℝ, codes (ix2 k r) = a) ∧ 0 ≤ (cols (ix2 k r)).toInt ∧ (cols (ix2 k r)).toInt < 1792))
    (hcoo : ∀ e, (∃ a : ℝ, ccodes (ix1 e) = a) ∧ 0 ≤ (ccols (ix1 e)).toInt ∧ (ccols (ix1 e)).toInt < 1792)
    (r : Fin 1792) (d : Fin 10240) :
    kernelOf x codes cols lens sc crows ccols ccodes csc r d
      = referenceOf x codes cols lens sc crows ccols (fun e => ccodes (ix1 e)) csc r d := by
  choose X hX using fun j => hx j d
  obtain ⟨s, hs⟩ := hsc r
  choose S hS using hcsc
  choose C hC using fun e => (hcoo e).1
  -- the code of a slot that counts, zero of one that does not
  have hslot : ∀ k : Fin 26, ∃ a : ℝ, Scalar.select (IntOp.cmpi .slt (BitVec.ofNat 32 ↑k) (lens (ix1 r))) (codes (ix2 k r)) 0 = (a : EReal)
      ∧ slotOf codes lens sc r k = ((a * s : ℝ) : EReal)
      ∧ (a = 0 ∨ ∀ j : Fin 1792, BitVec.ofNat 32 ↑j = cols (ix2 k r) ↔ j = rowOf (wrap (cols (ix2 k r)))) := by
    intro k
    have hk : (BitVec.ofNat 32 ↑k).toInt = (k.val : Int) := WordCmp.toInt_ofNat_of_lt (by have := k.isLt; omega)
    unfold slotOf
    rw [WordCmp.cmpi_slt_eq, WordCmp.select_decide, WordCmp.select_decide, hk, hs]
    by_cases h : (k.val : Int) < (lens (ix1 r)).toInt
    · rcases hell k r with h' | ⟨⟨a, ha⟩, h0, h1⟩
      · omega
      · exact ⟨a, by rw [if_pos h, ha], by rw [if_pos h, ha, EReal.coe_mul], Or.inr fun j => row_eq j _ h0 h1⟩
    · exact ⟨0, by rw [if_neg h, EReal.coe_zero], by rw [if_neg h, zero_mul, EReal.coe_zero], Or.inl rfl⟩
  choose c hc hcs hcc using hslot
  -- the dense matrix's row, as reals
  let v : Fin 3584 → ℝ := fun e => (if BitVec.ofNat 32 ↑r = crows (ix1 e) then 1 else 0) * (C e * S ⟨↑e / 128, by omega⟩)
  let A : Fin 1792 → ℝ := fun j => (∑ k : Fin 26, if BitVec.ofNat 32 ↑j = cols (ix2 k r) then c k * s else 0)
    + ∑ e : Fin 3584, if BitVec.ofNat 32 ↑j = ccols (ix1 e) then v e else 0
  have hA : ∀ j, denseOf codes cols lens sc crows ccols ccodes csc r j = (A j : EReal) := by
    intro j
    show _ = (((∑ k : Fin 26, if BitVec.ofNat 32 ↑j = cols (ix2 k r) then c k * s else 0)
      + ∑ e : Fin 3584, if BitVec.ofNat 32 ↑j = ccols (ix1 e) then v e else 0 : ℝ) : EReal)
    unfold denseOf
    rw [EReal.coe_add, coe_sum, coe_sum]
    refine congrArg₂ (· + ·) (Finset.sum_congr rfl fun k _ => ?_) (Finset.sum_congr rfl fun e _ => ?_)
    · rw [select_eq, hcs]
      split <;> simp
    · rw [select_eq, indicator, hC, hS, ← EReal.coe_mul, ← EReal.coe_mul]
      split <;> simp [v]
  have hL : kernelOf x codes cols lens sc crows ccols ccodes csc r d = ((∑ j, A j * X j : ℝ) : EReal) := by
    unfold kernelOf
    simp only [hA, hX, ← EReal.coe_sub, sub_self, EReal.coe_zero, zero_mul, Finset.sum_const_zero, add_zero, ← EReal.coe_mul]
    exact (coe_sum _).symm
  have z16 : FloatOps.sitofp (F := Ideal) .bf16 0#32 = (0 : EReal) := by
    show (((0#32).toInt : ℝ) : EReal) = 0
    simp
  have z32 : FloatOps.ofBits (F := Ideal) .f32 0#32 = (0 : EReal) := by simp [Ideal.ofBits, Ideal.ieee]
  have hR : referenceOf x codes cols lens sc crows ccols (fun e => ccodes (ix1 e)) csc r d
      = (((∑ k, c k * X (rowOf (wrap (cols (ix2 k r))))) * s + ∑ e, v e * X (rowOf (wrap (ccols (ix1 e)))) : ℝ) : EReal) := by
    unfold referenceOf
    rw [z16, z32, zero_add, EReal.coe_add, EReal.coe_mul, coe_sum, coe_sum, hs]
    refine congrArg₂ (· + ·) (congrArg (· * (s : EReal)) (Finset.sum_congr rfl fun k _ => ?_)) (Finset.sum_congr rfl fun e _ => ?_)
    · rw [hc, hX, ← EReal.coe_mul]
    · show (if (crows (ix1 e)).toInt = (r.val : Int) then
        (ccodes (ix1 e) * csc (ix1 ⟨↑e / 128, _⟩)) * x (ix2 (rowOf (wrap (ccols (ix1 e)))) d) else 0) = _
      rw [hC, hS, hX, ← EReal.coe_mul, ← EReal.coe_mul]
      by_cases h : (crows (ix1 e)).toInt = (r.val : Int)
      · rw [if_pos h]; simp [v, (word_eq r _).2 h]
      · rw [if_neg h]; simp [v, mt (word_eq r _).1 h]
  rw [hL, hR]
  refine congrArg _ ?_
  have e1 := one_column (fun (k : Fin 26) (j : Fin 1792) => BitVec.ofNat 32 ↑j = cols (ix2 k r)) (fun k => c k * s)
    (fun k => rowOf (wrap (cols (ix2 k r)))) X
    (fun k => (hcc k).imp (fun h => by rw [h, zero_mul]) id)
  have e2 := one_column (fun (e : Fin 3584) (j : Fin 1792) => BitVec.ofNat 32 ↑j = ccols (ix1 e)) v
    (fun e => rowOf (wrap (ccols (ix1 e)))) X
    (fun e => Or.inr fun j => row_eq j _ (hcoo e).2.1 (hcoo e).2.2)
  simp only [A, add_mul, Finset.sum_add_distrib]
  rw [e1, e2, Finset.sum_mul]
  exact congrArg (· + _) (Finset.sum_congr rfl fun k _ => by ring)

end Cert.Equation

end
-- ==== Proof.Pre.lean ====
/- What the precondition says of the arguments, element by element. -/
module

public import proofs.«01_k».proof.Defs
public import proofs.«01_k».proof.Proof.Gen.Pre_finite_and_in_range
public import Idealize.ShloMosaic.Lib.Pointwise
public import Idealize.ShloMosaic.Lib.WordCmp

@[expose] public section

set_option maxRecDepth 16384

noncomputable section

namespace Cert.Pre_finite_and_in_range.Hand

open Cert.Pre_finite_and_in_range Cert.Pre_finite_and_in_range.Gen
open Idealize.ShloMosaic

/-- An extended real whose absolute value is below infinity is a real. -/
theorem real_of_abs (a : EReal) (h : BitVec.ofBool (decide (max a (-a) < ⊤)) = 1#1) : ∃ b : ℝ, a = b := by
  have h' := (WordCmp.ofBool_decide_eq_one_iff _).1 h
  induction a using EReal.rec with
  | bot => simp at h'
  | top => simp at h'
  | coe b => exact ⟨b, rfl⟩

/-- The infinity of each format. -/
theorem inf32 : FloatOps.ofBits (F := Ideal) .f32 0x7F800000#32 = (⊤ : EReal) := by simp [Ideal.ofBits, Ideal.ieee]
theorem inf16 : FloatOps.ofBits (F := Ideal) .bf16 0x7F80#16 = (⊤ : EReal) := by simp [Ideal.ofBits, Ideal.ieee]

/-- An 8-bit code that is neither NaN pattern is a real. -/
theorem code_real (b : BitVec 8) (h1 : b ≠ 127#8) (h2 : b ≠ 255#8) : ∃ a : ℝ, FloatOps.ofBits (F := Ideal) .fp8e4m3 b = (a : EReal) := by
  have h : ¬((b.extractLsb' 3 4).toNat = 15 ∧ (b.extractLsb' 0 3).toNat = 7) := by
    revert b
    decide +kernel
  show ∃ a : ℝ, Ideal.e4m3fn b = (a : EReal)
  unfold Ideal.e4m3fn
  simp only [h, if_false]
  split <;> exact ⟨_, rfl⟩

/-- A bit that is the conjunction of two. -/
theorem and_one (a b : BitVec 1) (h : IntOp.andi a b = 1#1) : a = 1#1 ∧ b = 1#1 := by
  revert a b; decide
theorem or_one (a b : BitVec 1) (h : IntOp.ori a b = 1#1) : a = 1#1 ∨ b = 1#1 := by
  revert a b; decide

/-- A code byte that is no NaN and a column in range. -/
theorem entry (b : BitVec 8) (w : BitVec 32)
    (h : IntOp.andi (IntOp.andi (IntOp.andi (IntOp.cmpi .ne b 127#8) (IntOp.cmpi .ne b 255#8)) (IntOp.cmpi .sge w 0#32))
      (IntOp.cmpi .slt w 1792#32) = 1#1) :
    (∃ a : ℝ, FloatOps.ofBits (F := Ideal) .fp8e4m3 b = (a : EReal)) ∧ 0 ≤ w.toInt ∧ w.toInt < 1792 := by
  obtain ⟨h, h4⟩ := and_one _ _ h
  obtain ⟨h, h3⟩ := and_one _ _ h
  obtain ⟨h1, h2⟩ := and_one _ _ h
  rw [WordCmp.cmpi_ne_eq, WordCmp.ofBool_decide_eq_one_iff] at h1 h2
  rw [WordCmp.cmpi_sge_eq, WordCmp.ofBool_decide_eq_one_iff] at h3
  rw [WordCmp.cmpi_slt_eq, WordCmp.ofBool_decide_eq_one_iff] at h4
  exact ⟨code_real b h1 h2, h3, h4⟩

variable (x : FVec Ideal S1792x10240 .bf16) (codes : IVec S26x1792 8) (cols : IVec S26x1792 32) (lens : IVec S1792 32)
  (sc : FVec Ideal S1792 .f32) (crows ccols : IVec S3584 32) (ccodes : IVec S3584 8) (csc : FVec Ideal S28 .f32)

/-- Every element of `x` is a real. -/
theorem x_real (h : (fn (F := Ideal) x codes cols lens sc crows ccols ccodes csc).1 = fun _ => 1#1) (j : Fin 1792) (d : Fin 10240) :
    ∃ a : ℝ, x (ix2 j d) = a := by
  refine real_of_abs _ ?_
  have e := congrFun h (ix2 j d)
  rw [← inf16]
  exact e

/-- Every row scale is a real. -/
theorem sc_real (h : (fn (F := Ideal) x codes cols lens sc crows ccols ccodes csc).2.1 = fun _ => 1#1) (r : Fin 1792) :
    ∃ a : ℝ, sc (ix1 r) = a := by
  refine real_of_abs _ ?_
  have e := congrFun h (ix1 r)
  rw [← inf32]
  exact e

/-- Every COO scale is a real. -/
theorem csc_real (h : (fn (F := Ideal) x codes cols lens sc crows ccols ccodes csc).2.2.1 = fun _ => 1#1) (b : Fin 28) :
    ∃ a : ℝ, csc (ix1 b) = a := by
  refine real_of_abs _ ?_
  have e := congrFun h (ix1 b)
  rw [← inf32]
  exact e

/-- An ELL slot is past its row's length, or its code is a real and its column is in range. -/
theorem ell_ok (h : (fn (F := Ideal) x codes cols lens sc crows ccols ccodes csc).2.2.2.1 = fun _ => 1#1) (k : Fin 26) (r : Fin 1792) :
    (lens (ix1 r)).toInt ≤ k.val ∨ ((∃ a : ℝ, bitcastToFloat (F := Ideal) .fp8e4m3 codes (ix2 k r) = (a : EReal))
      ∧ 0 ≤ (cols (ix2 k r)).toInt ∧ (cols (ix2 k r)).toInt < 1792) := by
  have e := congrFun h (ix2 k r)
  unfold fn fn_part1 fn_part2 at e
  pointwise at e
  rcases or_one _ _ e with e | e
  · left
    rw [WordCmp.cmpi_sge_eq, WordCmp.ofBool_decide_eq_one_iff, WordCmp.toInt_ofNat_of_lt (by have := k.isLt; omega)] at e
    exact e
  · exact Or.inr (entry _ _ e)

/-- A COO entry's code is a real and its column is in range. -/
theorem coo_ok (h : (fn (F := Ideal) x codes cols lens sc crows ccols ccodes csc).2.2.2.2 = fun _ => 1#1) (e : Fin 3584) :
    (∃ a : ℝ, bitcastToFloat (F := Ideal) .fp8e4m3 ccodes (ix1 e) = (a : EReal))
      ∧ 0 ≤ (ccols (ix1 e)).toInt ∧ (ccols (ix1 e)).toInt < 1792 :=
  entry _ _ (congrFun h (ix1 e))

end Cert.Pre_finite_and_in_range.Hand

end
-- ==== Proof.Algebraic.lean ====
/- The value claim: from arguments that agree and meet the precondition, the two programs end with one result. -/
module

public import proofs.«01_k».proof.Defs
public import proofs.«01_k».proof.Proof.KernelRun
public import proofs.«01_k».proof.Proof.KernelValue
public import proofs.«01_k».proof.Proof.ReferenceValue
public import proofs.«01_k».proof.Proof.Equation
public import proofs.«01_k».proof.Proof.Pre

@[expose] public section

set_option maxRecDepth 16384

noncomputable section

namespace Cert.Equation

open Idealize.ShloMosaic Idealize.ShloMosaic.TcCoe Idealize.SL.Sem
open Cert.Pre_finite_and_in_range.Hand

/-- The reference's result array is the kernel's. -/
theorem results_agree
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Pre_KernelIdeal_finite_and_in_range m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2] c Cert.ReferenceIdeal.main_v43
      = Cert.KernelIdeal.Gen.W3 m g c Cert.KernelIdeal.main_v13 := by
  obtain ⟨p0, p1, p2, p3, p4⟩ := hp c
  refine (Cert.ReferenceIdeal.Hand.result m' c).trans (Eq.trans ?_ (Cert.KernelIdeal.Hand.result m g c).symm)
  funext i
  refine (Cert.ReferenceIdeal.Hand.referenceOf_congr h0 (congrArg _ h1) h2 h3 h4 h5 h6
    (funext fun e => congrFun (congrArg _ h7) (ix1 e)) h8 (i 0) (i 1)).trans ?_
  exact (kernel_eq_reference _ _ _ _ _ _ _ _ _ (x_real _ _ _ _ _ _ _ _ _ p0) (sc_real _ _ _ _ _ _ _ _ _ p1)
    (csc_real _ _ _ _ _ _ _ _ _ p2) (ell_ok _ _ _ _ _ _ _ _ _ p3) (coo_ok _ _ _ _ _ _ _ _ _ p4) (i 0) (i 1)).symm

/-- The value claim. -/
theorem algebraic : algebraic_KernelIdeal_ReferenceIdeal_pre_finite_and_in_range := by
  intro m g m' g' hp ha
  refine ⟨fun c => Cert.KernelIdeal.Gen.W3 m g c Cert.KernelIdeal.main_v13, Cert.KernelIdeal.Hand.run m g, ?_⟩
  refine (θ_run _ _ _).mono (fun _ h c => ?_) (Cert.ReferenceIdeal.Hand.run m' g')
  obtain ⟨h0, h1, h2, h3, h4, h5, h6, h7, h8⟩ := ha c
  exact ⟨(h c).1.trans (results_agree m g m' hp c h0 h1 h2 h3 h4 h5 h6 h7 h8), (h c).2⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_and_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_and_in_range.Gen.facts,
  fun m ρ _ => Cert.Kernel.Gen.frame m ρ, fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ, trivial, Cert.Equation.algebraic⟩

end Cert.Proof

end
